-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x32x32 : Shape := ⟨4, ![8, 256, 32, 32]⟩
abbrev S1024x256 : Shape := ⟨2, ![1024, 256]⟩
abbrev S_ : Shape := ⟨0, ![]⟩

class Facts : Prop where
  bcast_S_S8x256x32x32 : S_.BroadcastsInDim S8x256x32x32 (![] : Fin 0 → Fin S8x256x32x32.rank)
  bcast_S_S1024x256 : S_.BroadcastsInDim S1024x256 (![] : Fin 0 → Fin S1024x256.rank)

variable [Facts]

def fn {F : FTy → Type} [FloatOps F] (main_arg0 : FVec F S8x256x32x32 .f32) (main_arg1 : FVec F S1024x256 .f32) : IVec S8x256x32x32 1 × IVec S1024x256 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  (main_v2, main_v5)
-- ==== Kernel.lean ====
abbrev S8x256x32x32 : Shape := ⟨4, ![8, 256, 32, 32]⟩
abbrev S1024x256 : Shape := ⟨2, ![1024, 256]⟩
abbrev S8x256x1024 : Shape := ⟨3, ![8, 256, 1024]⟩
abbrev S8x1x1024 : Shape := ⟨3, ![8, 1, 1024]⟩
abbrev S1x256x1024 : Shape := ⟨3, ![1, 256, 1024]⟩
abbrev S1x1x1024 : Shape := ⟨3, ![1, 1, 1024]⟩
abbrev S1024x1 : Shape := ⟨2, ![1024, 1]⟩
abbrev S1024 : Shape := ⟨1, ![1024]⟩
abbrev S256x1024 : Shape := ⟨2, ![256, 1024]⟩
abbrev S1024x1024 : Shape := ⟨2, ![1024, 1024]⟩
abbrev S1x1024 : Shape := ⟨2, ![1, 1024]⟩
abbrev S8x1024 : Shape := ⟨2, ![8, 1024]⟩
abbrev S8x1 : Shape := ⟨2, ![8, 1]⟩
abbrev S8x32x32 : Shape := ⟨3, ![8, 32, 32]⟩

abbrev nBuf : Space → Nat
  | .hbm => 5
  | .vmem => 6
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x256x1024, .f32⟩
  | .hbm, ⟨3, _⟩ => ⟨S8x1x1024, .i32⟩
  | .hbm, ⟨4, _⟩ => ⟨S8x32x32, .i32⟩
  | .local _ .vmem, ⟨0, _⟩ => ⟨S1x256x1024, .f32⟩
  | .local _ .vmem, ⟨1, _⟩ => ⟨S1x256x1024, .f32⟩
  | .local _ .vmem, ⟨2, _⟩ => ⟨S1024x256, .f32⟩
  | .local _ .vmem, ⟨3, _⟩ => ⟨S1x1x1024, .i32⟩
  | .local _ .vmem, ⟨4, _⟩ => ⟨S1x1x1024, .i32⟩
  | .local _ .vmem, ⟨5, _⟩ => ⟨S1024x1, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S8192x1024 : Shape := ⟨2, ![8192, 1024]⟩
abbrev S1024 : Shape := ⟨1, ![1024]⟩
abbrev S1x1024 : Shape := ⟨2, ![1, 1024]⟩
abbrev S8x32x32 : Shape := ⟨3, ![8, 32, 32]⟩

abbrev nBuf : Space → Nat
  | .hbm => 27
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x256, .f32⟩
  | .hbm, ⟨10, _⟩ => ⟨S8192x256, .f32⟩
  | .hbm, ⟨11, _⟩ => ⟨S256x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024x256, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8x32x32, .i32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.RefRun.lean ====
/-
  The run of the reference program (../ReferenceIdeal.lean, `Cert.ReferenceIdeal`): @main is a straight line of host
  operations, so every buffer ends at the operations' results folded over the launch contents. `dists` is the
  (8192, 1024) array of distances it builds, `refOut` its result.
-/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- @main's operations, in order. -/
abbrev ops : List (HloOp τ sig (Elt F)) :=
  [ unary main_arg0 main_v0 (transpose S8x32x32x256 [0, 2, 3, 1] · transposes_S8x256x32x32_S8x32x32x256_0_2_3_1),
    StableHlo.reshape main_v0 main_v1 rfl shapeCasts_S8x32x32x256_S8192x256,
    binary main_v1 main_v1 main_v2 mulf,
    nullary main_cst (constant S_ .f32 0x00000000#32),
    binary main_v2 main_cst main_v3 (fun x v => Host.reduceAdd x v reducesTo_S8192x256_S8192_d1 h_S_),
    unary main_v3 main_v4 (broadcastInDim S8192x1 ![0] bcast_S8192_S8192x1_0),
    nullary main_cst_0 (constant S_ .f32 0x40000000#32),
    unary main_cst_0 main_v5 (broadcastInDim S8192x256 ![] bcast_S_S8192x256),
    binary main_v5 main_v1 main_v6 mulf,
    unary main_arg1 main_v7 (transpose S256x1024 [1, 0] · transposes_S1024x256_S256x1024_1_0),
    binary main_v6 main_v7 main_v8 (fun l r => Host.dotGeneral dot_S8192x256_S256x1024_S8192x1024_1_0_0_1_n_n none l r),
    unary main_v4 main_v9 (broadcastInDim S8192x1024 ![0, 1] bcast_S8192x1_S8192x1024_0_1),
    binary main_v9 main_v8 main_v10 subf,
    binary main_arg1 main_arg1 main_v11 mulf,
    nullary main_cst_1 (constant S_ .f32 0x00000000#32),
    binary main_v11 main_cst_1 main_v12 (fun x v => Host.reduceAdd x v reducesTo_S1024x256_S1024_d1 h_S_),
    unary main_v12 main_v13 (broadcastInDim S1x1024 ![1] bcast_S1024_S1x1024_1),
    unary main_v13 main_v14 (broadcastInDim S8192x1024 ![0, 1] bcast_S1x1024_S8192x1024_0_1),
    binary main_v10 main_v14 main_v15 addf,
    TRef.nullary main_call0.v0 (iotaInDim S8192x1024 32 1),
    TRef.nullary main_call0.cst (constant S_ .f32 0x7F800000#32),
    TRef.nullary main_call0.c (constantI S_ 32 0#32),
    TRef.quaternary (.of main_v15 rfl) main_call0.v0 main_call0.cst main_call0.c main_call0.v1_0
      (fun x y u v j => (Host.argReduce reducer_argmin_f32_i32 x y u v reducesTo_S8192x1024_S8192_d1 h_S_ j).1),
    TRef.quaternary (.of main_v15 rfl) main_call0.v0 main_call0.cst main_call0.c main_call0.v1_1
      (fun x y u v j => (Host.argReduce reducer_argmin_f32_i32 x y u v reducesTo_S8192x1024_S8192_d1 h_S_ j).2),
    StableHlo.reshape main_v16 main_v17 rfl shapeCasts_S8192_S8x32x32 ]

/-- @main is that straight line. -/
theorem main_eq (c : Dev nD) : main (F := F) c = seq ops := by
  simp only [main, fn_argmin.body, seq, bind_assoc, pure_bind]
  rfl

/-- The rows to classify: the channels moved last, one row of 256 per position. -/
def flat (z : FVec F S8x256x32x32 .f32) : FVec F S8192x256 .f32 :=
  shapeCast S8192x256 (transpose S8x32x32x256 [0, 2, 3, 1] z transposes_S8x256x32x32_S8x32x32x256_0_2_3_1)
    shapeCasts_S8x32x32x256_S8192x256

/-- The distances of every row to every codebook entry, as the reference writes them. -/
def dists (z : FVec F S8x256x32x32 .f32) (W : FVec F S1024x256 .f32) : FVec F S8192x1024 .f32 :=
  addf
    (subf
      (broadcastInDim S8192x1024 ![0, 1] bcast_S8192x1_S8192x1024_0_1
        (broadcastInDim S8192x1 ![0] bcast_S8192_S8192x1_0
          (Host.reduceAdd (mulf (flat z) (flat z)) (constant S_ .f32 0x00000000#32) reducesTo_S8192x256_S8192_d1 h_S_)))
      (Host.dotGeneral dot_S8192x256_S256x1024_S8192x1024_1_0_0_1_n_n none
        (mulf (broadcastInDim S8192x256 ![] bcast_S_S8192x256 (constant S_ .f32 0x40000000#32)) (flat z))
        (transpose S256x1024 [1, 0] W transposes_S1024x256_S256x1024_1_0)))
    (broadcastInDim S8192x1024 ![0, 1] bcast_S1x1024_S8192x1024_0_1
      (broadcastInDim S1x1024 ![1] bcast_S1024_S1x1024_1
        (Host.reduceAdd (mulf W W) (constant S_ .f32 0x00000000#32) reducesTo_S1024x256_S1024_d1 h_S_)))

/-- Each row's index of the least entry. -/
def rowArgmin (d : FVec F S8192x1024 .f32) : IVec S8192 32 := fun j =>
  (Host.argReduce reducer_argmin_f32_i32 d (iotaInDim S8192x1024 32 1) (constant S_ .f32 0x7F800000#32)
    (constantI S_ 32 0#32) reducesTo_S8192x1024_S8192_d1 h_S_ j).2

/-- The choices, row by row. -/
theorem rowArgmin_def (d : FVec F S8192x1024 .f32) : rowArgmin d = fun j =>
    (Host.argReduce reducer_argmin_f32_i32 d (iotaInDim S8192x1024 32 1) (constant S_ .f32 0x7F800000#32)
      (constantI S_ 32 0#32) reducesTo_S8192x1024_S8192_d1 h_S_ j).2 := rfl

/-- The reference's result. -/
def refOut (z : FVec F S8x256x32x32 .f32) (W : FVec F S1024x256 .f32) : IVec S8x32x32 32 :=
  shapeCast S8x32x32 (rowArgmin (dists z W)) shapeCasts_S8192_S8x32x32

/-- The reshape of @main's last line, at the shape its buffer declares. -/
theorem reshape_out (x : IVec S8192 32) :
    (fun i => shapeCast main_v17.ty.shape x shapeCasts_S8192_S8x32x32 i : IVec S8x32x32 32)
      = shapeCast S8x32x32 x shapeCasts_S8192_S8x32x32 := rfl

/-- The result's operations after the distances. -/
theorem out_of_dists (z : FVec F S8x256x32x32 .f32) (W : FVec F S1024x256 .f32) (d : FVec F S8192x1024 .f32)
    (h : d = dists z W) :
    (fun i => shapeCast main_v17.ty.shape (rowArgmin d) shapeCasts_S8192_S8x32x32 i : IVec S8x32x32 32) = refOut z W := by
  subst h
  unfold refOut
  exact reshape_out _

/-- The operations' fold at the result buffer. -/
theorem out_eq (V : Valuation τ sig (Elt F)) :
    after ops V (main_v17 : DevRef τ sig) = refOut (V (main_arg0 : DevRef τ sig)) (V (main_arg1 : DevRef τ sig)) := by
  after_results_simp
  dsimp only [TRef.ofBuf, TRef.toBuf, cast_eq]
  refine out_of_dists _ _ _ ?_
  rfl

/-- No operation writes the first argument. -/
theorem arg0_eq (V : Valuation τ sig (Elt F)) :
    after ops V (main_arg0 : DevRef τ sig) = V (main_arg0 : DevRef τ sig) := by
  simp only [after_cons, after_nil]
  rfl

/-- No operation writes the second argument. -/
theorem arg1_eq (V : Valuation τ sig (Elt F)) :
    after ops V (main_arg1 : DevRef τ sig) = V (main_arg1 : DevRef τ sig) := by
  simp only [after_cons, after_nil]
  rfl

/-- Nothing is scoped on this signature. -/
theorem scopedRefs_eq : (Finset.univ.filter fun b : Ref sig .tc => b.isScoped) = ∅ := by decide

/-- No semaphore is scoped on this signature. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub ..,
    nullary_bufs_sub .., unary_bufs_sub .., binary_bufs_sub .., unary_bufs_sub .., binary_bufs_sub .., unary_bufs_sub ..,
    binary_bufs_sub .., binary_bufs_sub .., nullary_bufs_sub .., binary_bufs_sub .., unary_bufs_sub .., unary_bufs_sub ..,
    binary_bufs_sub .., nullary_bufs_sub .., nullary_bufs_sub .., nullary_bufs_sub .., quaternary_bufs_sub ..,
    quaternary_bufs_sub .., reshape_bufs_sub ..⟩

/-- From any memory with zero counters every execution of @main terminates, the result buffer at `refOut` of the
    arguments, the arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v17)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c main_v17).trans (out_eq _), (h c main_arg0).trans (arg0_eq _), (h c main_arg1).trans (arg1_eq _)⟩)
    (run_seq scopedRefs_eq scopedSems_eq defs main (fun _ => ops) main_eq (fun _ => ops_sub) m ρ)

/-- The reference's frame, with every semaphore counter at zero: it declares none. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, Idealize.ShloMosaic.sem_eq_zero_of_no_sems (by decide) r.2⟩) (run_main m ρ)

end Cert.Proof.Ref

end
-- ==== Proof.Finite.lean ====
/-
  The two ways of writing a squared distance, of finite numbers.
-/
module

public import Idealize.ShloMosaic.PureOps.Ideal

@[expose] public section

noncomputable section

namespace Cert.Proof.Finite

open Idealize.ShloMosaic

/-- The bits of -2. -/
theorem ofBits_neg_two : Ideal.ofBits .f32 0xC0000000#32 = ((-2 : ℝ) : EReal) := by
  simp [Ideal.ofBits, Ideal.ieee]
  rw [← EReal.coe_mul]
  norm_num

/-- The bits of 1/4. -/
theorem ofBits_quarter : Ideal.ofBits .f32 0x3E800000#32 = ((1 / 4 : ℝ) : EReal) := by
  simp [Ideal.ofBits, Ideal.ieee]
  rw [← EReal.coe_mul]
  norm_num

/-- The bits of 2. -/
theorem ofBits_two : Ideal.ofBits .f32 0x40000000#32 = ((2 : ℝ) : EReal) := by
  simp [Ideal.ofBits, Ideal.ieee]
  rw [← EReal.coe_mul]
  norm_num

/-- A sum of real numbers, read as an extended real. -/
theorem coe_sum {n : Nat} (f : Fin n → ℝ) : ∑ c, ((f c : ℝ) : EReal) = ((∑ c, f c : ℝ) : EReal) := by
  induction n with
  | zero => simp
  | succ n ih => rw [Fin.sum_univ_succ, Fin.sum_univ_succ, ih, EReal.coe_add]

/-- A number below ⊤ in absolute value is real. -/
theorem real_of_abs_lt (a : EReal) (h : max a (-a) < ⊤) : ∃ x : ℝ, a = x := by
  induction a with
  | bot => simp at h
  | coe x => exact ⟨x, rfl⟩
  | top => simp at h

/-- The kernel's score is the reference's distance: (Σ (-2a)²)/4 + Σ w·(-2a) + Σ w² = (Σ a² - Σ (2a)·w) + Σ w². -/
theorem score_eq_dist {n : Nat} (a w : Fin n → EReal) (ha : ∀ c, ∃ x : ℝ, a c = x) (hw : ∀ c, ∃ x : ℝ, w c = x) :
    ((∑ c, (a c * Ideal.ofBits .f32 0xC0000000#32) * (a c * Ideal.ofBits .f32 0xC0000000#32)) * Ideal.ofBits .f32 0x3E800000#32
        + ∑ c, w c * (a c * Ideal.ofBits .f32 0xC0000000#32))
      + ∑ c, w c * w c
    = ((∑ c, a c * a c) - ∑ c, (Ideal.ofBits .f32 0x40000000#32 * a c) * w c) + ∑ c, w c * w c := by
  choose x hx using ha
  choose y hy using hw
  obtain rfl : a = fun c => (x c : EReal) := funext hx
  obtain rfl : w = fun c => (y c : EReal) := funext hy
  rw [ofBits_neg_two, ofBits_quarter, ofBits_two]
  simp only [← EReal.coe_mul, coe_sum, ← EReal.coe_add, ← EReal.coe_sub]
  refine congrArg _ (congrArg (· + _) ?_)
  rw [Finset.sum_mul, ← Finset.sum_add_distrib, ← Finset.sum_sub_distrib]
  exact Finset.sum_congr rfl fun c _ => by ring

end Cert.Proof.Finite

end
-- ==== Proof.Chain.lean ====
/-
  The kernel's running minimum: 128 chunks of eight codebook rows folded, in order, into the least score of each
  sublane and the chunk it was found in.
-/
module

public import proofs.«01_k».proof.Proof.Gen.KernelIdeal.Frame
public import Idealize.ShloMosaic.Lib.Pipeline.Value

@[expose] public section

set_option maxRecDepth 16384

noncomputable section

namespace Cert.Proof.Chain

open Cert.KernelIdeal Cert.KernelIdeal.Gen
open Idealize.ShloMosaic Idealize.SL.Sem

variable {F : FTy → Type} [FloatOps F]

/-- Chunk `k`'s rows lie in the (1024, 1024) array of products. -/
theorem chunk_slices (k : Nat) (hk : k < 128) : S1024x1024.Slices ![8 * k, 0] S8x1024 := by
  refine ⟨rfl, fun a => ?_⟩
  fin_cases a
  · show 8 * k + 8 ≤ 1024; omega
  · show 0 + 1024 ≤ 1024; omega

/-- Chunk `k`'s rows lie in the column of codebook norms. -/
theorem chunk_inb (k : Nat) (hk : k < 128) : ∀ a, (![8 * k, 0] : Fin 2 → Nat) a + S8x1.size a ≤ S1024x1.size a := by
  intro a
  fin_cases a
  · show 8 * k + 8 ≤ 1024; omega
  · show 0 + 1 ≤ 1; omega

/-- The word of the float `k`, for a chunk number `k < 128`. -/
def chunkWord (k : Nat) : BitVec 32 :=
  if k = 0 then 0#32 else BitVec.ofNat 32 ((127 + Nat.log2 k) * 2 ^ 23 + (k * 2 ^ (23 - Nat.log2 k) - 2 ^ 23))

/-- The norms of chunk `k`'s rows, out of the column `w` of all norms. -/
def norms (w : Vec F S1024x1 .f32) (k : Nat) (hk : k < 128) : Vec F S8x1 .f32 :=
  View.ld w (Rect.unit (s := S1024x1) ![8 * k, 0] S8x1.size (chunk_inb k hk))

/-- Chunk `k`'s scores. -/
def score (cross : FVec F S1024x1024 .f32) (xn : FVec F S1x1024 .f32) (wn : (k : Nat) → k < 128 → Vec F S8x1 .f32)
    (k : Nat) (hk : k < 128) : FVec F S8x1024 .f32 :=
  addf
    (addf (broadcastTo S8x1024 xn broadcasts_S1x1024_S8x1024)
      (extractStridedSlice S8x1024 ![8 * k, 0] cross (chunk_slices k hk)))
    (broadcastTo S8x1024 (wn k hk) broadcasts_S8x1_S8x1024)

/-- The state after chunk `k`: each sublane's least score so far, and the number of the chunk that holds it. -/
def st (cross : FVec F S1024x1024 .f32) (xn : FVec F S1x1024 .f32) (wn : (k : Nat) → k < 128 → Vec F S8x1 .f32) (k : Nat) :
    k < 128 → FVec F S8x1024 .f32 × FVec F S8x1024 .f32 :=
  Nat.rec (motive := fun k => k < 128 → FVec F S8x1024 .f32 × FVec F S8x1024 .f32)
    (fun h => (score cross xn wn 0 h, broadcast S8x1024 (Scalar.ofBits .f32 (chunkWord 0))))
    (fun k prev h =>
      (minimumf (score cross xn wn (k + 1) h) (prev (Nat.lt_of_succ_lt h)).1,
        select (cmpf .olt (score cross xn wn (k + 1) h) (prev (Nat.lt_of_succ_lt h)).1)
          (broadcast S8x1024 (Scalar.ofBits .f32 (chunkWord (k + 1)))) (prev (Nat.lt_of_succ_lt h)).2))
    k

/-- After the first chunk: its own scores, under number 0. -/
theorem st_zero (cross : FVec F S1024x1024 .f32) (xn : FVec F S1x1024 .f32) (wn : (k : Nat) → k < 128 → Vec F S8x1 .f32)
    (h : 0 < 128) (i : S8x1024.Idx) :
    (st cross xn wn 0 h).1 i = score cross xn wn 0 h i
      ∧ (st cross xn wn 0 h).2 i = FloatOps.ofBits .f32 (chunkWord 0) := ⟨rfl, rfl⟩

/-- After one more chunk. -/
theorem st_succ (cross : FVec F S1024x1024 .f32) (xn : FVec F S1x1024 .f32) (wn : (k : Nat) → k < 128 → Vec F S8x1 .f32)
    (k : Nat) (h : k + 1 < 128) (i : S8x1024.Idx) :
    (st cross xn wn (k + 1) h).1 i
        = FloatOps.minimumf (score cross xn wn (k + 1) h i) ((st cross xn wn k (Nat.lt_of_succ_lt h)).1 i)
      ∧ (st cross xn wn (k + 1) h).2 i
        = Scalar.select (FloatOps.cmpf .olt (score cross xn wn (k + 1) h i) ((st cross xn wn k (Nat.lt_of_succ_lt h)).1 i))
            (FloatOps.ofBits .f32 (chunkWord (k + 1))) ((st cross xn wn k (Nat.lt_of_succ_lt h)).2 i) := ⟨rfl, rfl⟩

/-- The last chunk and the choice between the sublanes: the kernel's own final payload, over the state before it. -/
def finish (cross : FVec F S1024x1024 .f32) (xn : FVec F S1x1024 .f32) (wn : (k : Nat) → k < 128 → Vec F S8x1 .f32) :
    IVec S1x1x1024 32 :=
  k0_pay1 (st cross xn wn 126 (by omega)).1 (st cross xn wn 126 (by omega)).2
    (addf (broadcastTo S8x1024 xn broadcasts_S1x1024_S8x1024)
      (extractStridedSlice S8x1024 ![8 * 127, 0] cross (chunk_slices 127 (by omega)))) (wn 127 (by omega))

/-- The choice between the sublanes: the least of the rows whose score is the least. -/
def choose (mv mi : FVec F S8x1024 .f32) : IVec S1x1x1024 32 :=
  shapeCast S1x1x1024
    (multiReductionI .minsi [0] S1024
      (select
        (cmpf .oeq mv (broadcastTo S8x1024 (shapeCast S1x1024
          (multiReduction .minimumf [0] S1024 mv 0x7F800000#32 reduces_S8x1024_S1024 (.inl rfl) rfl) shapeCasts_S1024_S1x1024)
          broadcasts_S1x1024_S8x1024))
        (addi (muli (fptosi 32 mi) (broadcast S8x1024 8#32)) (iota .tc S8x1024 32 [0] iota_S8x1024_d0_w32))
        (broadcast S8x1024 1024#32))
      2147483647#32 reduces_S8x1024_S1024 rfl) shapeCasts_S1024_S1x1x1024

/-- The kernel's final payload is that choice, over the state after the last chunk. -/
theorem finish_eq (cross : FVec F S1024x1024 .f32) (xn : FVec F S1x1024 .f32) (wn : (k : Nat) → k < 128 → Vec F S8x1 .f32) :
    finish cross xn wn = choose (st cross xn wn 127 (by omega)).1 (st cross xn wn 127 (by omega)).2 := by
  sl_kernel_rfl

/-- The block that a grid point stores: of the block `x0` of positions, the codebook `x1` and the column `w` of norms. -/
def block (x0 : Vec F S1x256x1024 .f32) (x1 : Vec F S1024x256 .f32) (w : Vec F S1024x1 .f32) : IVec S1x1x1024 32 :=
  finish (k0_pay4 x0 x1) (k0_pay5 x0) (norms w)

section Points

variable (c : Dev nD) (i : grid0.Coords)
  (arg1 : Memref sig .tc .vmem S1x256x1024 .f32) (harg1 : arg1.IsWhole)
  (arg2 : Memref sig .tc .vmem S1024x256 .f32) (harg2 : arg2.IsWhole)
  (arg3 : Memref sig .tc .vmem S1x1x1024 .i32) (harg3 : arg3.IsWhole)
  (arg4 : Memref sig .tc .vmem S1024x1 .f32) (harg4 : arg4.IsWhole)
  (x0 : Vec F S1x256x1024 .f32) (x1 : Vec F S1024x256 .f32) (xs0 : Vec F S1024x1 .f32)

/-- The output's piece at a point that writes the norms first, over the loads as the run names them. -/
theorem pieces_A (hc0 : cond0_0 i) :
    (kernelRun0_A c i arg1 harg1 arg2 harg2 arg3 harg3 arg4 harg4 hc0 x0 x1).1
      = [⟨Rect.unit ![0, 0, 0] S1x1x1024.size inb_S1x1x1024_S1x1x1024_0_0_0,
          block (View.ld (arg1.view.read (Elt F) (harg1.unread x0)) (Rect.unit ![0, 0, 0] S1x256x1024.size inb_S1x256x1024_S1x256x1024_0_0_0))
            (View.ld (arg2.view.read (Elt F) (harg2.unread x1)) (Rect.unit ![0, 0] S1024x256.size inb_S1024x256_S1024x256_0_0))
            (arg4.view.read (Elt F) (arg4.view.writes (Elt F) arg4.view.junk
              [⟨Rect.unit ![0, 0] S1024x1.size inb_S1024x1_S1024x1_0_0, k0_pay2
                (View.ld (arg2.view.read (Elt F) (harg2.unread x1)) (Rect.unit ![0, 0] S1024x256.size inb_S1024x256_S1024x256_0_0))⟩]))⟩] := by
  sl_kernel_rfl

/-- The scratch's piece there. -/
theorem scratch_A (hc0 : cond0_0 i) :
    (kernelRun0_A c i arg1 harg1 arg2 harg2 arg3 harg3 arg4 harg4 hc0 x0 x1).2.1
      = [⟨Rect.unit ![0, 0] S1024x1.size inb_S1024x1_S1024x1_0_0, k0_pay2
          (View.ld (arg2.view.read (Elt F) (harg2.unread x1)) (Rect.unit ![0, 0] S1024x256.size inb_S1024x256_S1024x256_0_0))⟩] := by
  sl_kernel_rfl

/-- The output's piece at a point that finds the norms in the scratch. -/
theorem pieces_B (hc0 : ¬cond0_0 i) :
    (kernelRun0_B c i arg1 harg1 arg2 harg2 arg3 harg3 arg4 harg4 hc0 x0 x1 xs0).1
      = [⟨Rect.unit ![0, 0, 0] S1x1x1024.size inb_S1x1x1024_S1x1x1024_0_0_0,
          block (View.ld (arg1.view.read (Elt F) (harg1.unread x0)) (Rect.unit ![0, 0, 0] S1x256x1024.size inb_S1x256x1024_S1x256x1024_0_0_0))
            (View.ld (arg2.view.read (Elt F) (harg2.unread x1)) (Rect.unit ![0, 0] S1024x256.size inb_S1024x256_S1024x256_0_0))
            (arg4.view.read (Elt F) (harg4.unread xs0))⟩] := by
  sl_kernel_rfl

/-- Two zero offsets. -/
theorem off2 : (![0, 0] : Fin 2 → Nat) = fun _ => 0 := by decide

/-- Three zero offsets. -/
theorem off3 : (![0, 0, 0] : Fin 3 → Nat) = fun _ => 0 := by decide

/-- A single whole store, read back. -/
theorem read_whole {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon v f _ (fun y => ⟨_, List.mem_singleton_self _, by
    rw [Rect.mem_set_unit]; intro a; exact ⟨Nat.zero_le _, by rw [Nat.zero_add]; exact (y a).isLt⟩⟩)]
  exact View.canon_unit_zero rfl inb w

/-- What the first point leaves in the output's staging buffer. -/
theorem out_A (hc0 : cond0_0 i) :
    out0_A_2 c i arg1 harg1 arg2 harg2 arg3 harg3 arg4 harg4 hc0 x0 x1 = block x0 x1 (k0_pay2 x1) := by
  unfold out0_A_2
  rw [pieces_A, read_whole VO0_2 _ off3, read_whole arg4.view _ off2, harg1.read_unread, harg2.read_unread,
    View.ld_unit_zero off3, View.ld_unit_zero off2]

/-- What it leaves in the scratch. -/
theorem sout_A (hc0 : cond0_0 i) :
    sout0_A_0 c i arg1 harg1 arg2 harg2 arg3 harg3 arg4 harg4 hc0 x0 x1 = k0_pay2 x1 := by
  unfold sout0_A_0
  rw [scratch_A, read_whole VS0_0 _ off2, harg2.read_unread, View.ld_unit_zero off2]

/-- What any later point leaves in the output's staging buffer. -/
theorem out_B (hc0 : ¬cond0_0 i) :
    out0_B_2 c i arg1 harg1 arg2 harg2 arg3 harg3 arg4 harg4 hc0 x0 x1 xs0 = block x0 x1 xs0 := by
  unfold out0_B_2
  rw [pieces_B, read_whole VO0_2 _ off3, harg1.read_unread, harg2.read_unread, harg4.read_unread,
    View.ld_unit_zero off3, View.ld_unit_zero off2]

end Points

end Cert.Proof.Chain

end
-- ==== Proof.Argmin.lean ====
/-
  The kernel's choice over the extended reals: of the scores of the 1024 codebook rows at one position, the running
  minimum over the chunks and then the choice between the sublanes find the first row of least score.
-/
module

public import proofs.«01_k».proof.Proof.Chain
public import Idealize.ShloMosaic.PureOps.Ideal
public import Idealize.ShloMosaic.Lib.Pointwise
public import Idealize.ShloMosaic.Lib.PlanTiles.Rows

@[expose] public section

set_option maxRecDepth 16384

noncomputable section

namespace Cert.Proof.Argmin

open Cert.KernelIdeal Cert.KernelIdeal.Gen Cert.Proof.Chain
open Idealize.ShloMosaic

/-- `n` is the first index of the least among `D 0, …, D (N - 1)`. -/
def IsFirst (N : Nat) (D : Nat → EReal) (n : Nat) : Prop :=
  n < N ∧ ∀ i, i < N → D n ≤ D i ∧ (D i = D n → n ≤ i)

/-- There is at most one such index. -/
theorem IsFirst.unique {N : Nat} {D : Nat → EReal} {n n' : Nat} (h : IsFirst N D n) (h' : IsFirst N D n') : n = n' := by
  have e : D n = D n' := le_antisymm (h.2 n' h'.1).1 (h'.2 n h.1).1
  exact le_antisymm ((h.2 n' h'.1).2 e.symm) ((h'.2 n h.1).2 e)

/-- One more value: it wins when it is less than the least so far. -/
theorem IsFirst.succ_lt {N : Nat} {D : Nat → EReal} {n : Nat} (h : IsFirst N D n) (hlt : D N < D n) :
    IsFirst (N + 1) D N := by
  refine ⟨Nat.lt_succ_self N, fun i hi => ?_⟩
  rcases Nat.lt_succ_iff_lt_or_eq.mp hi with hi | rfl
  · have := lt_of_lt_of_le hlt (h.2 i hi).1
    exact ⟨this.le, fun e => absurd e this.ne'⟩
  · exact ⟨le_refl _, fun _ => le_refl _⟩

/-- One more value: otherwise the first least stays. -/
theorem IsFirst.succ_ge {N : Nat} {D : Nat → EReal} {n : Nat} (h : IsFirst N D n) (hge : ¬D N < D n) :
    IsFirst (N + 1) D n := by
  refine ⟨Nat.lt_succ_of_lt h.1, fun i hi => ?_⟩
  rcases Nat.lt_succ_iff_lt_or_eq.mp hi with hi | rfl
  · exact h.2 i hi
  · exact ⟨not_lt.mp hge, fun _ => h.1.le⟩

/-- Every nonempty run of values has a first least one. -/
theorem IsFirst.exists (D : Nat → EReal) : ∀ N : Nat, ∃ n, IsFirst (N + 1) D n
  | 0 => ⟨0, Nat.one_pos, fun i hi => by obtain rfl : i = 0 := by omega
                                         exact ⟨le_refl _, fun _ => le_refl _⟩⟩
  | N + 1 => by
    obtain ⟨n, h⟩ := IsFirst.exists D N
    by_cases hlt : D (N + 1) < D n
    · exact ⟨_, h.succ_lt hlt⟩
    · exact ⟨n, h.succ_ge hlt⟩

/-- The fields of a chunk number's float word. -/
theorem chunkWord_fields : ∀ k : Fin 128, k.val ≠ 0 →
    (chunkWord k.val).extractLsb' 31 1 = 0#1
    ∧ ((chunkWord k.val).extractLsb' 23 8).toNat = 127 + Nat.log2 k.val
    ∧ 2 ^ 23 + ((chunkWord k.val).extractLsb' 0 23).toNat = k.val * 2 ^ (23 - Nat.log2 k.val)
    ∧ Nat.log2 k.val ≤ 6 := by
  decide +kernel

/-- A chunk number's float word denotes the chunk number. -/
theorem ofBits_chunkWord (k : Nat) (hk : k < 128) : (FloatOps.ofBits .f32 (chunkWord k) : Ideal .f32) = ((k : ℝ) : EReal) := by
  rw [Ideal.ofBits_def]
  by_cases h0 : k = 0
  · subst h0; simp [chunkWord]
  · obtain ⟨hs, he, hf, hl⟩ := chunkWord_fields ⟨k, hk⟩ h0
    dsimp only at hs he hf hl
    unfold Ideal.ofBits Ideal.ieee
    dsimp only
    rw [show (8 + 23 : Nat) = 31 from rfl, hs, he, hf, if_neg (by omega), if_neg (by omega)]
    congr 1
    push_cast
    rw [show ((127 : ℤ) + (Nat.log2 k : ℤ)) - 127 - 23 = -((23 - Nat.log2 k : Nat) : ℤ) from by
      rw [Nat.cast_sub (by omega)]; push_cast; ring]
    rw [zpow_neg, zpow_natCast]
    simp

/-- The conversion gives the chunk number's word. -/
theorem fptosi_chunkWord (k : Nat) (hk : k < 128) :
    FloatOps.fptosi 32 (FloatOps.ofBits .f32 (chunkWord k) : Ideal .f32) = BitVec.ofNat 32 k := by
  rw [ofBits_chunkWord k hk]
  show Ideal.fptosi 32 ((k : ℝ) : EReal) = _
  rw [Ideal.fptosi, Ideal.toIntClamped_coe, if_pos (by positivity), Int.floor_natCast,
    min_eq_right (by push_cast; omega), max_eq_right (by push_cast; omega), BitVec.ofInt_natCast]

section Chunks

variable (cross : FVec Ideal S1024x1024 .f32) (xn : FVec Ideal S1x1024 .f32)
  (wn : (k : Nat) → k < 128 → Vec Ideal S8x1 .f32) (D : Nat → EReal) (l : Fin 1024)

/-- After chunk `k`, at sublane `s`: the number of the first chunk of least score, and that score. -/
theorem st_spec (hD : ∀ k hk (s : Fin 8), score cross xn wn k hk (ix2 s l) = D (8 * k + s)) (s : Fin 8) :
    ∀ k hk, ∃ κ, IsFirst (k + 1) (fun κ => D (8 * κ + s)) κ ∧ (st cross xn wn k hk).1 (ix2 s l) = D (8 * κ + s)
      ∧ (st cross xn wn k hk).2 (ix2 s l) = FloatOps.ofBits .f32 (chunkWord κ) := by
  intro k
  induction k with
  | zero =>
    intro hk
    refine ⟨0, ⟨Nat.one_pos, fun i hi => ?_⟩, (st_zero cross xn wn hk _).1.trans (hD 0 hk s), (st_zero cross xn wn hk _).2⟩
    obtain rfl : i = 0 := by omega
    exact ⟨le_refl _, fun _ => le_refl _⟩
  | succ k ih =>
    intro hk
    obtain ⟨κ, hκ, h1, h2⟩ := ih (Nat.lt_of_succ_lt hk)
    have e1 : (st cross xn wn (k + 1) hk).1 (ix2 s l) = min (D (8 * (k + 1) + s)) (D (8 * κ + s)) := by
      rw [(st_succ cross xn wn k hk _).1, hD, h1, Ideal.minimumf_eq_min]
    have e2 : (st cross xn wn (k + 1) hk).2 (ix2 s l)
        = if D (8 * (k + 1) + s) < D (8 * κ + s) then FloatOps.ofBits .f32 (chunkWord (k + 1)) else FloatOps.ofBits .f32 (chunkWord κ) := by
      rw [(st_succ cross xn wn k hk _).2, hD, h1, h2, Ideal.cmpf_def, Scalar.select]
      simp only [Ideal.cmp_olt_eq_one]
    by_cases hlt : D (8 * (k + 1) + s) < D (8 * κ + s)
    · exact ⟨k + 1, hκ.succ_lt hlt, by rw [e1, min_eq_left hlt.le], by rw [e2, if_pos hlt]⟩
    · exact ⟨κ, hκ.succ_ge hlt, by rw [e1, min_eq_right (not_lt.mp hlt)], by rw [e2, if_neg hlt]⟩

end Chunks

/-- The word of the float +∞. -/
theorem ofBits_inf : Ideal.ofBits .f32 0x7F800000#32 = ⊤ := by simp [Ideal.ofBits, Ideal.ieee]

/-- The choice at one position. -/
theorem choose_apply (l : Fin 1024) (mv mi : FVec Ideal S8x1024 .f32) : choose mv mi (ix3 0 0 l)
    = (Finset.univ : Finset (Fin 8)).fold IntOp.minsi 2147483647#32 fun s =>
        if mv (ix2 s l) = (Finset.univ : Finset (Fin 8)).fold min ⊤ (fun s => mv (ix2 s l))
        then IntOp.addi (IntOp.muli (FloatOps.fptosi 32 (mi (ix2 s l))) 8#32) (BitVec.ofNat 32 s) else 1024#32 := by
  unfold choose
  pointwise
  rw [← ofBits_inf]

/-- The signed minimum of small words is the word of their minimum. -/
theorem fold_minsi_ofNat {ι : Type} [DecidableEq ι] (S : Finset ι) (h : ι → Nat) (hh : ∀ i, h i < 2 ^ 31) :
    S.fold IntOp.minsi 2147483647#32 (fun i => BitVec.ofNat 32 (h i)) = BitVec.ofNat 32 (S.fold min 2147483647 h)
      ∧ S.fold min 2147483647 h < 2 ^ 31 := by
  induction S using Finset.induction_on with
  | empty => exact ⟨rfl, by rw [Finset.fold_empty]; norm_num⟩
  | insert a S ha ih =>
    rw [Finset.fold_insert ha, Finset.fold_insert ha, ih.1, min_comm]
    exact ⟨PlanTiles.minsi_word (hh a) ih.2, lt_of_le_of_lt (min_le_left _ _) ih.2⟩

/-- The minimum over the sublanes. -/
theorem fold_min_eq {ι α : Type} [Fintype ι] [LinearOrder α] (f : ι → α) (top : α) (i : ι) (hi : ∀ j, f i ≤ f j) (ht : f i ≤ top) :
    (Finset.univ : Finset ι).fold min top f = f i :=
  le_antisymm ((Finset.fold_min_le _).mpr (.inr ⟨i, Finset.mem_univ i, le_refl _⟩))
    ((Finset.le_fold_min _).mpr ⟨ht, fun j _ => hi j⟩)

/-- The kernel's choice at one position is the first row of least score. -/
theorem finish_apply (cross : FVec Ideal S1024x1024 .f32) (xn : FVec Ideal S1x1024 .f32)
    (wn : (k : Nat) → k < 128 → Vec Ideal S8x1 .f32) (D : Nat → EReal) (l : Fin 1024)
    (hD : ∀ k hk (s : Fin 8), score cross xn wn k hk (ix2 s l) = D (8 * k + s)) (n : Nat) (hn : IsFirst 1024 D n) :
    finish cross xn wn (ix3 0 0 l) = BitVec.ofNat 32 n := by
  rw [finish_eq, choose_apply]
  choose κ hκ h1 h2 using fun s => st_spec cross xn wn D l hD s 127 (by omega)
  simp only [h1, h2]
  have hlt : n < 1024 := hn.1
  have hκlt : ∀ s, κ s < 128 := fun s => (hκ s).1
  -- the sublane of the first row, and the chunk it is in
  let s₀ : Fin 8 := ⟨n % 8, Nat.mod_lt _ (by omega)⟩
  have hs₀ : s₀.val = n % 8 := rfl
  have hκ₀ : κ s₀ = n / 8 := by
    refine (hκ s₀).unique ⟨by omega, fun i hi => ?_⟩
    dsimp only
    rw [show 8 * (n / 8) + (s₀ : Nat) = n by omega]
    have := hn.2 (8 * i + s₀) (by omega)
    exact ⟨this.1, fun e => by have := this.2 e; omega⟩
  have hrow : 8 * κ s₀ + (s₀ : Nat) = n := by omega
  have hmin : (Finset.univ : Finset (Fin 8)).fold min ⊤ (fun s => D (8 * κ s + s)) = D n := by
    rw [fold_min_eq _ _ s₀ (fun s => ?_) le_top, hrow]
    rw [hrow]; exact (hn.2 _ (by have := hκlt s; omega)).1
  rw [hmin]
  have hw : ∀ s : Fin 8, (if D (8 * κ s + s) = D n
      then IntOp.addi (IntOp.muli (FloatOps.fptosi 32 (FloatOps.ofBits .f32 (chunkWord (κ s)) : Ideal .f32)) 8#32) (BitVec.ofNat 32 s)
      else 1024#32) = BitVec.ofNat 32 (if D (8 * κ s + s) = D n then 8 * κ s + s else 1024) := by
    intro s
    split
    · rw [fptosi_chunkWord _ (hκlt s)]
      show BitVec.ofNat 32 (κ s) * BitVec.ofNat 32 8 + BitVec.ofNat 32 s = _
      rw [← BitVec.ofNat_mul, ← BitVec.ofNat_add, Nat.mul_comm]
    · rfl
  simp only [hw]
  rw [(fold_minsi_ofNat _ _ fun s => by have := hκlt s; split <;> omega).1]
  rw [fold_min_eq _ _ s₀ (fun s => ?_) (by rw [hrow, if_pos rfl]; omega)]
  · rw [hrow, if_pos rfl]
  · rw [hrow, if_pos rfl]
    split
    · next e => exact (hn.2 _ (by have := hκlt s; omega)).2 e
    · omega

end Cert.Proof.Argmin

end
-- ==== Proof.KernelRun.lean ====
/-
  The run of the kernel program (../KernelIdeal.lean, `Cert.KernelIdeal`): point `b` of the grid stores the block of
  batch `b`, with the norms that the first point left in the scratch; `kerOut` is the result of @main.
-/
module

public import proofs.«01_k».proof.Proof.Chain
public import Idealize.ShloMosaic.Lib.Pipeline.ValueKit

@[expose] public section

set_option maxRecDepth 16384

noncomputable section

namespace Cert.Proof.Kernel

open Cert.KernelIdeal Cert.KernelIdeal.Gen Cert.Proof.Chain
open Idealize.ShloMosaic Idealize.ShloMosaic.TcCoe Idealize.ShloMosaic.Pipeline Idealize.SL.Sem

variable {F : FTy → Type} [FloatOps F]

/-- Batch `b` of the positions. -/
def batch (z : Vec F S8x256x1024 .f32) (b : Fin 8) : Vec F S1x256x1024 .f32 := fun y => z (ix3 b (y 1) (y 2))

/-- The array of all blocks. -/
def kerArr (z : Vec F S8x256x1024 .f32) (W : Vec F S1024x256 .f32) : IVec S8x1x1024 32 := fun i =>
  block (batch z (i 0)) W (k0_pay2 W) (ix3 0 (i 1) (i 2))

/-- The kernel's result. -/
def kerOut (z : FVec F S8x256x32x32 .f32) (W : FVec F S1024x256 .f32) : IVec S8x32x32 32 :=
  shapeCast S8x32x32 (kerArr (shapeCast S8x256x1024 z shapeCasts_S8x256x32x32_S8x256x1024) W) shapeCasts_S8x1x1024_S8x32x32

variable (m : (ℓ : Loc nD τ sig) → Buf (Elt F) ℓ) (ρ : Dev nD → PrngReg)

/-- The windows' block indices at a point. -/
theorem idx : ∀ t : Fin grid0.N, win0_0.index t = ![t.val, 0, 0] ∧ win0_1.index t = ![0, 0] ∧ win0_2.index t = ![t.val, 0, 0] := by
  decide +kernel

/-- The positions as the region finds them: the host reshape of the argument. -/
theorem V_main_v0 (c : Dev nD) : V m c main_v0
    = shapeCast S8x256x1024 (m ((c : Thread nD τ).loc main_arg0)) shapeCasts_S8x256x32x32_S8x256x1024 := by
  show StableHlo.after (List.flatten [hostOps0]) _ _ = _
  simp only [hostOps0, List.flatten_cons, List.flatten_nil, List.append_nil]
  after_results
  rfl

/-- A grid point's number. -/
def pt (t : Fin cfg0.N) : Fin 8 := ⟨t.val, by have : cfg0.N = 8 := N_0; have := t.isLt; omega⟩

/-- The block of positions at a point. -/
theorem iblk0 (c : Dev nD) (t : Fin cfg0.N) : iblk m c 0 t = batch (V m c main_v0) (pt t) := by
  funext y
  unfold batch
  blk_ext [iblk, (idx t).1, pt]

/-- The block of the codebook at a point: all of it. -/
theorem iblk1 (c : Dev nD) (t : Fin cfg0.N) : iblk m c 1 t = m ((c : Thread nD τ).loc main_arg1) := by
  funext y
  rw [← V_main_arg1 m c]
  blk_ext [iblk, (idx t).2.1]

/-- The first point leaves the codebook's norms in the scratch. -/
theorem scratch_A' (c : Dev nD) (t : Fin cfg0.N) (h0 : t.val % 8 = 0) :
    (outsAt0 m c t.val t.isLt).2 = k0_pay2 (m ((c : Thread nD τ).loc main_arg1)) := by
  rw [outsAt0_A m c t h0]
  dsimp only
  rw [sout_A, iblk1]

/-- Any later point leaves the scratch as it is. -/
theorem scratch_B' (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  exact Eq.refl _

/-- After every point the scratch holds the codebook's norms. -/
theorem scratch_eq (c : Dev nD) : ∀ (n : Nat) (hn : n < cfg0.N),
    (outsAt0 m c n hn).2 = k0_pay2 (m ((c : Thread nD τ).loc main_arg1)) := by
  have hN : cfg0.N = 8 := N_0
  intro n
  induction n with
  | zero => exact fun hn => scratch_A' m c ⟨0, hn⟩ rfl
  | succ n ih => exact fun hn => (scratch_B' m c ⟨n + 1, hn⟩ (by show ¬(n + 1) % 8 = 0; omega)).trans (ih _)

/-- What a point leaves for its block of the result. -/
theorem outs_eq (c : Dev nD) (t : Fin cfg0.N) : (outsAt0 m c t.val t.isLt).1
    = block (batch (V m c main_v0) (pt t)) (m ((c : Thread nD τ).loc main_arg1))
        (k0_pay2 (m ((c : Thread nD τ).loc main_arg1))) := by
  by_cases h0 : t.val % 8 = 0
  · rw [outsAt0_A m c t h0]
    dsimp only
    rw [out_A, iblk0, iblk1]
  · rw [outsAt0_B m c t h0]
    dsimp only
    rw [out_B, iblk0, iblk1, scratch_eq]

/-- The region's output array after the run. -/
theorem arr_eq (c : Dev nD) : (dats m 0 c).arrAt 2 cfg0.N
    = kerArr (V m c main_v0) (m ((c : Thread nD τ).loc main_arg1)) := by
  refine (dats m 0 c).arrAt_eq_of_covers 2 _ (by decide +kernel) fun t hf y => ?_
  rw [after0_2, outs_eq]
  have hN : cfg0.N = 8 := N_0
  have e0 : (((win0_2.blk t).view.emb y 0 : Fin _) : Nat) = t.val := by blk_simp [(idx t).2.2]
  have e2 : (((win0_2.blk t).view.emb y 2 : Fin _) : Nat) = (y 2).val := by blk_simp [(idx t).2.2]
  show block _ _ _ y = block (batch _ ((win0_2.blk t).view.emb y 0)) _ _ _
  rw [show (win0_2.blk t).view.emb y 0 = pt t from Fin.ext e0]
  congr 1
  funext a
  apply Fin.ext
  fin_cases a
  · exact Nat.lt_one_iff.mp (y 0).isLt
  · exact (Nat.lt_one_iff.mp (y 1).isLt).trans (Nat.lt_one_iff.mp ((win0_2.blk t).view.emb y 1).isLt).symm
  · exact e2.symm

/-- The reshape of @main's last line, at the shape its buffer declares. -/
theorem reshape_out (x : IVec S8x1x1024 32) :
    (fun i => shapeCast main_v2.ty.shape x shapeCasts_S8x1x1024_S8x32x32 i : IVec S8x32x32 32)
      = shapeCast S8x32x32 x shapeCasts_S8x1x1024_S8x32x32 := rfl

/-- The result after the host's last reshape. -/
theorem tail_eq (c : Dev nD) : Pipeline.afterTail₀ cfgs (dats m) 0 (V0 m) [hostOps1] c main_v2
    = kerOut (m ((c : Thread nD τ).loc main_arg0)) (m ((c : Thread nD τ).loc main_arg1)) := by
  have h := Pipeline.withArrays_arr (τ := τ) spec0 (by decide) c (V0 m c) (fun w => (dats m 0 c).arrAt w cfg0.N) 2
  have h' : Pipeline.withArrays (τ := τ) spec0 c (V0 m c) (fun w => (dats m 0 c).arrAt w cfg0.N) (Proc.devRef .tc main_v1) = _ := h.trans (arr_eq m c)
  unfold Pipeline.afterTail₀
  simp only [hostOps1, List.flatten_cons, List.flatten_nil, List.append_nil]
  after_results
  rw [show Pipeline.withArrays (τ := τ) (cfgs 0).spec c (V0 m c) (fun w => (dats m 0 c).arrAt w (cfgs 0).N) (Proc.devRef .tc main_v1) = _ from h',
    V_main_v0]
  exact reshape_out _

/-- From any memory with zero counters every execution of @main terminates, the result buffer at `kerOut` of the
    arguments, the arguments unchanged. -/
theorem run_main : θ_run defs (onTc (τ := τ) (main (F := F))) ⟨m, fun _ => 0, ρ⟩ fun r => ∀ c : Dev nD,
      r.2.mem ((c.tc : Thread nD τ).loc main_v2)
          = kerOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c main_v2 (Pipeline.mem_restRefs_of main_v2 (by decide) (by decide))).trans (tail_eq m c)), h.2 c⟩)
    (θ_run_and ((θ_run defs _ _).mono (fun _ h c => (h c).2) (Gen.run_main m ρ)) (Gen.unchanged m ρ))

end Cert.Proof.Kernel

end
-- ==== Proof.Score.lean ====
/-
  The kernel's scores and the reference's distances at an index, over the extended reals.
-/
module

public import proofs.«01_k».proof.Proof.KernelRun
public import proofs.«01_k».proof.Proof.Argmin

@[expose] public section

set_option maxRecDepth 16384

noncomputable section

namespace Cert.Proof.Kernel

open Cert.KernelIdeal Cert.KernelIdeal.Gen Cert.Proof.Chain
open Idealize.ShloMosaic

/-- The scaled positions of a batch. -/
theorem pay3_apply (z : Vec Ideal S8x256x1024 .f32) (b : Fin 8) (c : Fin 256) (l : Fin 1024) :
    k0_pay3 (batch z b) (ix2 c l) = z (ix3 b c l) * Ideal.ofBits .f32 0xC0000000#32 := by
  unfold k0_pay3
  pointwise
  rfl

/-- The kernel's squared norm of a position. -/
theorem pay5_apply (z : Vec Ideal S8x256x1024 .f32) (b : Fin 8) (l : Fin 1024) :
    k0_pay5 (batch z b) (ix2 0 l) = (∑ c : Fin 256, k0_pay3 (batch z b) (ix2 c l) * k0_pay3 (batch z b) (ix2 c l))
      * Ideal.ofBits .f32 0x3E800000#32 := by
  unfold k0_pay5
  pointwise

/-- The kernel's products. -/
theorem pay4_apply (x : Vec Ideal S1x256x1024 .f32) (W : Vec Ideal S1024x256 .f32) (r : Fin 1024) (l : Fin 1024) :
    k0_pay4 x W (ix2 r l) = ∑ c : Fin 256, W (ix2 r c) * k0_pay3 x (ix2 c l) := by
  unfold k0_pay4
  pointwise

/-- The kernel's squared norms of the codebook. -/
theorem pay2_apply (W : Vec Ideal S1024x256 .f32) (r : Fin 1024) :
    k0_pay2 W (ix2 r 0) = ∑ c : Fin 256, W (ix2 r c) * W (ix2 r c) := by
  unfold k0_pay2
  pointwise

/-- The norms of a chunk's rows. -/
theorem norms_apply (w : Vec Ideal S1024x1 .f32) (k : Nat) (hk : k < 128) (s : Fin 8) (r : Fin 1024) (hr : r.val = 8 * k + s) :
    norms w k hk (ix2 s 0) = w (ix2 r 0) := by
  unfold norms
  refine View.ld_unit_apply_of _ _ _ _ _ _ fun a => ?_
  fin_cases a
  · exact hr
  · rfl

/-- A score, of its three terms. -/
theorem score_apply (cross : FVec Ideal S1024x1024 .f32) (xn : FVec Ideal S1x1024 .f32) (w : Vec Ideal S1024x1 .f32)
    (k : Nat) (hk : k < 128) (s : Fin 8) (l : Fin 1024) (r : Fin 1024) (hr : r.val = 8 * k + s) :
    score cross xn (norms w) k hk (ix2 s l) = (xn (ix2 0 l) + cross (ix2 r l)) + w (ix2 r 0) := by
  rw [← norms_apply w k hk s r hr]
  have hs : 8 * k + s.val < 1024 := hr ▸ r.isLt
  obtain rfl : r = ⟨8 * k + s.val, hs⟩ := Fin.ext hr
  unfold score
  pointwise

end Cert.Proof.Kernel

end
-- ==== Proof.KernelOut.lean ====
/-
  The kernel's result at an index.
-/
module

public import proofs.«01_k».proof.Proof.KernelRun
public import Idealize.ShloMosaic.PureOps.Ideal
public import Idealize.ShloMosaic.Lib.Pointwise

@[expose] public section

set_option maxRecDepth 16384

noncomputable section

namespace Cert.Proof.Kernel

open Cert.KernelIdeal Cert.KernelIdeal.Gen Cert.Proof.Chain
open Idealize.ShloMosaic

variable {F : FTy → Type} [FloatOps F]

/-- The reshaped positions at an index. -/
theorem reshape_apply (z : FVec F S8x256x32x32 .f32) (b : Fin 8) (h w : Fin 32) (c : Fin 256) (l : Fin 1024)
    (hl : l.val = h * 32 + w) : shapeCast S8x256x1024 z shapeCasts_S8x256x32x32_S8x256x1024 (ix3 b c l) = z (ix4 b c h w) := by
  pointwise
  have h1 : l.val / 32 = h.val := by omega
  have h2 : l.val % 32 = w.val := by omega
  exact congrArg z (congrArg₂ (ix4 b c) (Fin.ext h1) (Fin.ext h2))

/-- The reshaped result at an index. -/
theorem out_apply (x : IVec S8x1x1024 32) (b : Fin 8) (h w : Fin 32) (l : Fin 1024)
    (hl : l.val = h * 32 + w) : shapeCast S8x32x32 x shapeCasts_S8x1x1024_S8x32x32 (ix3 b h w) = x (ix3 b 0 l) := by
  pointwise
  exact congrArg x (congrArg (ix3 b 0) (Fin.ext hl.symm))

/-- The result, as the reshaped blocks of the reshaped positions. -/
theorem kerOut_def (z : FVec F S8x256x32x32 .f32) (W : FVec F S1024x256 .f32) :
    kerOut z W
      = shapeCast S8x32x32 (kerArr (shapeCast S8x256x1024 z shapeCasts_S8x256x32x32_S8x256x1024) W) shapeCasts_S8x1x1024_S8x32x32 := by
  unfold kerOut
  rfl

/-- An array whose leading coordinate picks a block, at an index. -/
theorem pick_apply (g : Fin 8 → IVec S1x1x1024 32) (b : Fin 8) (l : Fin 1024) :
    (fun i => g (i 0) (ix3 0 (i 1) (i 2)) : IVec S8x1x1024 32) (ix3 b 0 l) = g b (ix3 0 0 l) := rfl

/-- The blocks as an array whose leading coordinate picks one. -/
theorem kerArr_def (z : FVec F S8x256x1024 .f32) (W : FVec F S1024x256 .f32) :
    kerArr z W = fun i => (fun b => block (batch z b) W (k0_pay2 W)) (i 0) (ix3 0 (i 1) (i 2)) := by
  unfold kerArr
  rfl

/-- The result at a position: the running minimum's row there, of its batch. -/
theorem kerOut_apply (z : FVec F S8x256x32x32 .f32) (W : FVec F S1024x256 .f32) (b : Fin 8) (h w : Fin 32) (l : Fin 1024)
    (hl : l.val = h * 32 + w) :
    kerOut z W (ix3 b h w)
      = block (batch (shapeCast S8x256x1024 z shapeCasts_S8x256x32x32_S8x256x1024) b) W (k0_pay2 W) (ix3 0 0 l) :=
  (congrFun (kerOut_def z W) (ix3 b h w)).trans <|
    (out_apply _ b h w l hl).trans <|
      (congrFun (kerArr_def _ W) (ix3 b 0 l)).trans (pick_apply
        (fun b => block (batch (shapeCast S8x256x1024 z shapeCasts_S8x256x32x32_S8x256x1024) b) W (k0_pay2 W)) b l)

end Cert.Proof.Kernel

end
-- ==== Proof.RefDist.lean ====
/-
  The reference's distances at an index, over the extended reals.
-/
module

public import proofs.«01_k».proof.Proof.RefRun
public import Idealize.ShloMosaic.PureOps.Ideal
public import Idealize.ShloMosaic.Lib.Pointwise

@[expose] public section

set_option maxRecDepth 16384

noncomputable section

namespace Cert.Proof.Ref

open Cert.ReferenceIdeal Cert.ReferenceIdeal.Gen
open Idealize.ShloMosaic

/-- A distance, of its three sums. -/
theorem dists_apply (z : FVec Ideal S8x256x32x32 .f32) (W : FVec Ideal S1024x256 .f32) (j : Fin 8192) (r : Fin 1024) :
    dists z W (ix2 j r)
      = ((∑ c : Fin 256, flat z (ix2 j c) * flat z (ix2 j c))
          - ∑ c : Fin 256, (Ideal.ofBits .f32 0x40000000#32 * flat z (ix2 j c)) * W (ix2 r c))
        + ∑ c : Fin 256, W (ix2 r c) * W (ix2 r c) := by
  unfold dists
  generalize flat z = f
  pointwise

/-- A row at a channel. -/
theorem flat_apply (z : FVec Ideal S8x256x32x32 .f32) (b : Fin 8) (h w : Fin 32) (c : Fin 256) (j : Fin 8192)
    (hj : j.val = b * 1024 + h * 32 + w) : flat z (ix2 j c) = z (ix4 b c h w) := by
  unfold flat
  pointwise
  have h1 : j.val / 1024 = b.val := by omega
  have h2 : j.val / 32 % 32 = h.val := by omega
  have h3 : j.val % 32 = w.val := by omega
  rw [show (⟨j.val / 1024, by omega⟩ : Fin 8) = b from Fin.ext h1,
    show (⟨j.val / 32 % 32, by omega⟩ : Fin 32) = h from Fin.ext h2,
    show (⟨j.val % 32, by omega⟩ : Fin 32) = w from Fin.ext h3]

/-- The reshaped rows at a position. -/
theorem rows_apply (x : IVec S8192 32) (b : Fin 8) (h w : Fin 32) (j : Fin 8192)
    (hj : j.val = b * 1024 + h * 32 + w) : shapeCast S8x32x32 x shapeCasts_S8192_S8x32x32 (ix3 b h w) = x (ix1 j) := by
  pointwise
  exact congrArg x (congrArg ix1 (Fin.ext hj.symm))

/-- The result, as the reshaped row results. -/
theorem refOut_def (z : FVec Ideal S8x256x32x32 .f32) (W : FVec Ideal S1024x256 .f32) :
    refOut z W = shapeCast S8x32x32 (rowArgmin (dists z W)) shapeCasts_S8192_S8x32x32 := by
  unfold refOut
  rfl

/-- The result at a position. -/
theorem refOut_apply (z : FVec Ideal S8x256x32x32 .f32) (W : FVec Ideal S1024x256 .f32) (b : Fin 8) (h w : Fin 32) (j : Fin 8192)
    (hj : j.val = b * 1024 + h * 32 + w) : refOut z W (ix3 b h w) = rowArgmin (dists z W) (ix1 j) :=
  (congrFun (refOut_def z W) (ix3 b h w)).trans (rows_apply (rowArgmin (dists z W)) b h w j hj)

end Cert.Proof.Ref

end
-- ==== Proof.RefValue.lean ====
/-
  The reference's choice over the extended reals: each row's index of the first least distance.
-/
module

public import proofs.«01_k».proof.Proof.RefRun
public import proofs.«01_k».proof.Proof.Argmin

@[expose] public section

set_option maxRecDepth 16384

noncomputable section

namespace Cert.Proof.Ref

open Cert.ReferenceIdeal Cert.ReferenceIdeal.Gen Cert.Proof.Argmin
open Idealize.ShloMosaic

/-- The reducer keeps the accumulated pair when its value is less, or equal with the smaller index. -/
theorem reducer_eq (a b : EReal × BitVec 32) : reducer_argmin_f32_i32 (F := Ideal) a b
    = if a.1 < b.1 ∨ (a.1 = b.1 ∧ a.2.slt b.2 = true) then a else b := by
  obtain ⟨a1, a2⟩ := a
  obtain ⟨b1, b2⟩ := b
  unfold reducer_argmin_f32_i32
  simp only [Ideal.cmpf_def, Ideal.cmp_olt, Ideal.cmp_une, Ideal.cmp_oeq, IntOp.cmpi, IntOp.ori, IntOp.andi, Scalar.select]
  by_cases h : a1 < b1
  · by_cases h' : a1 = b1 <;> by_cases hs : a2.slt b2 = true <;> simp [h, h', hs]
  · by_cases h' : a1 = b1 <;> by_cases hs : a2.slt b2 = true <;> simp [h, h', hs]

/-- Folding pairs of a value and its index gives the first least one, wherever it stands in the list. -/
theorem foldl_first {D : Nat → EReal} {n : Nat} (hn : IsFirst 1024 D n) : ∀ (L : List (EReal × BitVec 32)),
    (∀ p ∈ L, ∃ i, i < 1024 ∧ p = (D i, BitVec.ofNat 32 i)) → ∀ acc : EReal × BitVec 32,
    (∃ a, a < 1024 ∧ acc.2 = BitVec.ofNat 32 a ∧ D n ≤ acc.1 ∧ (acc.1 = D n → n ≤ a)) →
    ((D n, BitVec.ofNat 32 n) ∈ L ∨ acc = (D n, BitVec.ofNat 32 n)) →
    L.foldl (reducer_argmin_f32_i32 (F := Ideal)) acc = (D n, BitVec.ofNat 32 n) := by
  have hlt := hn.1
  intro L
  induction L with
  | nil => intro _ acc _ h; exact h.resolve_left (List.not_mem_nil)
  | cons p L ih =>
    intro hL acc ⟨a, ha, hacc, hle, hfirst⟩ hin
    obtain ⟨i, hi, rfl⟩ := hL p List.mem_cons_self
    obtain ⟨a1, a2⟩ := acc
    dsimp only at hacc hle hfirst
    subst hacc
    rw [List.foldl_cons, reducer_eq]
    dsimp only
    simp only [Routing.slt_ofNat32 (show a < 2 ^ 31 by omega) (show i < 2 ^ 31 by omega), decide_eq_true_eq]
    have hi' := hn.2 i hi
    refine ih (fun q hq => hL q (List.mem_cons_of_mem _ hq)) _ ?_ ?_
    · split
      · exact ⟨a, ha, rfl, hle, hfirst⟩
      · exact ⟨i, hi, rfl, hi'.1, hi'.2⟩
    · rcases hin with hin | hin
      · rcases List.mem_cons.mp hin with hin | hin
        · right
          rw [← hin]
          simp only [Prod.mk.injEq] at hin
          have hni : n = i := by
            have := congrArg BitVec.toNat hin.2
            simp only [BitVec.toNat_ofNat] at this
            omega
          subst hni
          split
          · next h =>
            rcases h with h | ⟨h, h'⟩
            · exact absurd h (not_lt.mpr hle)
            · have := hfirst h; omega
          · rfl
        · exact .inl hin
      · right
        simp only [Prod.mk.injEq] at hin
        have hna : n = a := by
          have := congrArg BitVec.toNat hin.2
          simp only [BitVec.toNat_ofNat] at this
          omega
        obtain ⟨rfl, -⟩ := hin
        subst hna
        split
        · rfl
        · next h =>
          have e : D i = D n := by
            refine le_antisymm ?_ hi'.1
            by_contra hc
            exact h (.inl (not_le.mp hc))
          have := hi'.2 e
          have : n = i := by
            by_contra hc
            exact h (.inr ⟨e.symm, by omega⟩)
          rw [e, this]

/-- The pairs of a fiber are those of the indices that drop to its index. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ i, h.drop i = j ∧ p = (x i, y i) := by
  simp only [Host.argReduceFiber, List.mem_map, List.mem_filter, decide_eq_true_eq]
  constructor
  · rintro ⟨q, ⟨-, hq⟩, rfl⟩
    exact ⟨_, hq, rfl⟩
  · rintro ⟨i, hi, rfl⟩
    exact ⟨s.rowMajor i, ⟨List.mem_finRange _, by rw [Equiv.symm_apply_apply]; exact hi⟩, by rw [Equiv.symm_apply_apply]⟩

/-- An index drops to a row when its first coordinate is the row. -/
theorem drop_row {a b : Nat} (h : (⟨2, ![a, b]⟩ : Shape).ReducesTo [1] ⟨1, ![a]⟩) (i : (⟨2, ![a, b]⟩ : Shape).Idx) (j : Fin a) :
    h.drop i = ix1 j ↔ i 0 = j := by
  constructor
  · intro e
    exact congrFun e 0
  · intro e
    funext c
    fin_cases c
    exact e

/-- An index is the pair of its coordinates. -/
theorem eq_ix2 {a b : Nat} (i : (⟨2, ![a, b]⟩ : Shape).Idx) {j : Fin a} (h : i 0 = j) : i = ix2 j (i 1) := by
  funext c
  fin_cases c
  · exact h
  · rfl

/-- The arg-min along a row of any array of this many columns. -/
theorem argmin_row {a : Nat} (d : FVec Ideal ⟨2, ![a, 1024]⟩ .f32) (y : IVec ⟨2, ![a, 1024]⟩ 32) (D : Nat → EReal) (j : Fin a)
    (hD : ∀ r : Fin 1024, d (ix2 j r) = D r) (hy : ∀ r : Fin 1024, y (ix2 j r) = BitVec.ofNat 32 r)
    (h : (⟨2, ![a, 1024]⟩ : Shape).ReducesTo [1] ⟨1, ![a]⟩) {u : Shape} (hu : 0 < u.numel)
    (ix : FVec Ideal u .f32) (iy : IVec u 32) (hix : ix (Shape.Idx.first hu) = ⊤) (hiy : iy (Shape.Idx.first hu) = BitVec.ofNat 32 0)
    (n : Nat) (hn : IsFirst 1024 D n) :
    (Host.argReduce (reducer_argmin_f32_i32 (F := Ideal)) d y ix iy h hu (ix1 j)).2 = BitVec.ofNat 32 n := by
  rw [Ideal.argReduce_eq_reduce2, Host.reduce2_eq_foldl_fiber, hix, hiy]
  have hlt := hn.1
  refine congrArg Prod.snd (foldl_first hn _ ?_ _ ⟨0, by omega, rfl, le_top, ?_⟩ (.inl ?_))
  · intro p hp
    obtain ⟨i, hi, rfl⟩ := (mem_fiber _ _ _ _ _).mp hp
    have e := eq_ix2 i ((drop_row h i j).mp hi)
    refine ⟨(i 1).val, (i 1).isLt, ?_⟩
    rw [e]
    exact Prod.ext (hD (i 1)) (hy (i 1))
  · intro e
    exact (hn.2 0 (by omega)).2 (le_antisymm (by rw [← e]; exact le_top) (hn.2 0 (by omega)).1)
  · refine (mem_fiber _ _ _ _ _).mpr ⟨ix2 j ⟨n, hlt⟩, (drop_row h _ j).mpr rfl, ?_⟩
    exact Prod.ext (hD ⟨n, hlt⟩).symm (hy ⟨n, hlt⟩).symm

/-- A row's result is the index of its first least entry. -/
theorem rowArgmin_apply (d : FVec Ideal S8192x1024 .f32) (D : Nat → EReal) (j : Fin 8192) (hD : ∀ r : Fin 1024, d (ix2 j r) = D r)
    (n : Nat) (hn : IsFirst 1024 D n) : rowArgmin d (ix1 j) = BitVec.ofNat 32 n := by
  refine (congrFun (rowArgmin_def d) (ix1 j)).trans ?_
  refine argmin_row d _ D j hD (fun r => ?_) _ _ _ _ ?_ ?_ n hn
  · pointwise
  · rw [constant_apply, Ideal.ofBits_def, ofBits_inf]
  · exact constantI_apply _ _ _ _

end Cert.Proof.Ref

end
-- ==== Proof.Algebraic.lean ====
/-
  The kernel's result is the reference's, for finite positions and a finite codebook.
-/
module

public import proofs.«01_k».proof.Defs
public import proofs.«01_k».proof.Proof.Gen.Pre_finite
public import proofs.«01_k».proof.Proof.Finite
public import proofs.«01_k».proof.Proof.Argmin
public import proofs.«01_k».proof.Proof.Score
public import proofs.«01_k».proof.Proof.KernelOut
public import proofs.«01_k».proof.Proof.RefDist
public import proofs.«01_k».proof.Proof.RefValue

@[expose] public section

set_option maxRecDepth 16384

noncomputable section

namespace Cert.Proof.Algebraic

open Idealize.ShloMosaic Idealize.ShloMosaic.TcCoe Idealize.SL.Sem
open Cert.Proof.Argmin Cert.Proof.Finite
open Cert.KernelIdeal (S8x256x32x32 S1024x256 S8x256x1024)

/-- What the precondition says of the positions: every one is real. -/
theorem real_z (z : FVec Ideal S8x256x32x32 .f32) (W : FVec Ideal S1024x256 .f32)
    (h : (Cert.Pre_finite.fn (F := Ideal) z W).1 = fun _ => 1#1) (b : Fin 8) (c : Fin 256) (i j : Fin 32) :
    ∃ x : ℝ, z (ix4 b c i j) = x := by
  have e := congrFun h (ix4 b c i j)
  unfold Cert.Pre_finite.fn at e
  replace e : Ideal.cmp .olt (max (z (ix4 b c i j)) (-z (ix4 b c i j))) (Ideal.ofBits .f32 0x7F800000#32) = 1#1 := e
  rw [ofBits_inf] at e
  exact real_of_abs_lt _ ((Ideal.cmp_olt_eq_one _ _).mp e)

/-- What the precondition says of the codebook: every entry is real. -/
theorem real_W (z : FVec Ideal S8x256x32x32 .f32) (W : FVec Ideal S1024x256 .f32)
    (h : (Cert.Pre_finite.fn (F := Ideal) z W).2 = fun _ => 1#1) (r : Fin 1024) (c : Fin 256) :
    ∃ x : ℝ, W (ix2 r c) = x := by
  have e := congrFun h (ix2 r c)
  unfold Cert.Pre_finite.fn at e
  replace e : Ideal.cmp .olt (max (W (ix2 r c)) (-W (ix2 r c))) (Ideal.ofBits .f32 0x7F800000#32) = 1#1 := e
  rw [ofBits_inf] at e
  exact real_of_abs_lt _ ((Ideal.cmp_olt_eq_one _ _).mp e)

/-- The kernel's score of codebook row `r` at a position is the reference's distance. -/
theorem score_dist (z : FVec Ideal S8x256x32x32 .f32) (W : FVec Ideal S1024x256 .f32) (x : FVec Ideal S8x256x1024 .f32)
    (b : Fin 8) (h w : Fin 32) (l : Fin 1024) (j : Fin 8192) (r : Fin 1024)
    (hx : ∀ c, x (ix3 b c l) = z (ix4 b c h w)) (hj : j.val = b * 1024 + h * 32 + w)
    (hz : ∀ c, ∃ y : ℝ, z (ix4 b c h w) = y) (hW : ∀ c, ∃ y : ℝ, W (ix2 r c) = y) :
    (Cert.KernelIdeal.Gen.k0_pay5 (Kernel.batch x b) (ix2 0 l) + Cert.KernelIdeal.Gen.k0_pay4 (Kernel.batch x b) W (ix2 r l))
        + Cert.KernelIdeal.Gen.k0_pay2 W (ix2 r 0)
      = Ref.dists z W (ix2 j r) := by
  rw [Kernel.pay5_apply, Kernel.pay4_apply, Kernel.pay2_apply, Ref.dists_apply]
  simp only [Kernel.pay3_apply, hx, Ref.flat_apply z b h w _ j hj]
  exact score_eq_dist (fun c => z (ix4 b c h w)) (fun c => W (ix2 r c)) hz hW

/-- The distances at row `j`, of any number. -/
def rowD (d : Fin 1024 → EReal) (r : Nat) : EReal := if h : r < 1024 then d ⟨r, h⟩ else 0

/-- Below the codebook's size it is the distance. -/
theorem rowD_val (d : Fin 1024 → EReal) (r : Fin 1024) : rowD d r.val = d r := by
  unfold rowD
  rw [dif_pos r.isLt]

/-- The two results at a position. -/
theorem out_apply_eq (z : FVec Ideal S8x256x32x32 .f32) (W : FVec Ideal S1024x256 .f32)
    (hz : ∀ b c i j, ∃ x : ℝ, z (ix4 b c i j) = x) (hW : ∀ r c, ∃ x : ℝ, W (ix2 r c) = x) (b : Fin 8) (h w : Fin 32) :
    Kernel.kerOut z W (ix3 b h w) = Ref.refOut z W (ix3 b h w) := by
  obtain ⟨l, hl⟩ : ∃ l : Fin 1024, l.val = h * 32 + w := ⟨⟨h * 32 + w, by omega⟩, rfl⟩
  obtain ⟨j, hj⟩ : ∃ j : Fin 8192, j.val = b * 1024 + h * 32 + w := ⟨⟨b * 1024 + h * 32 + w, by omega⟩, rfl⟩
  obtain ⟨n, hn⟩ := IsFirst.exists (rowD fun r => Ref.dists z W (ix2 j r)) 1023
  refine (Kernel.kerOut_apply z W b h w l hl).trans ?_
  refine Eq.trans ?_ (Ref.refOut_apply z W b h w j hj).symm
  refine Eq.trans ?_ (Ref.rowArgmin_apply _ _ j (fun r => (rowD_val (fun r => Ref.dists z W (ix2 j r)) r).symm) n hn).symm
  unfold Chain.block
  refine finish_apply _ _ _ (rowD fun r => Ref.dists z W (ix2 j r)) l (fun k hk s => ?_) n hn
  have hs : 8 * k + s.val < 1024 := by omega
  rw [Kernel.score_apply _ _ _ k hk s l ⟨8 * k + s.val, hs⟩ rfl,
    score_dist z W _ b h w l j _ (fun c => Kernel.reshape_apply z b h w c l hl) hj (fun c => hz b c h w) (fun c => hW _ c)]
  exact (rowD_val (fun r => Ref.dists z W (ix2 j r)) ⟨8 * k + s.val, hs⟩).symm

/-- The two results. -/
theorem out_eq (z : FVec Ideal S8x256x32x32 .f32) (W : FVec Ideal S1024x256 .f32)
    (hz : ∀ b c i j, ∃ x : ℝ, z (ix4 b c i j) = x) (hW : ∀ r c, ∃ x : ℝ, W (ix2 r c) = x) :
    Kernel.kerOut z W = Ref.refOut z W := by
  funext i
  obtain ⟨b, h, w, rfl⟩ : ∃ (b : Fin 8) (h w : Fin 32), i = ix3 b h w := ⟨i 0, i 1, i 2, by
    funext a
    fin_cases a <;> rfl⟩
  exact out_apply_eq z W hz hW b h w

/-- From memories that agree on the arguments, finite ones, the kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨_, Kernel.run_main m g, (θ_run Cert.ReferenceIdeal.defs _ _).mono (fun r hr c => ?_) (Ref.run_main m' g')⟩
  obtain ⟨h, h0, h1⟩ := hr c
  refine ⟨h.trans ?_, h0, h1⟩
  rw [(hargs c).1, (hargs c).2]
  exact (out_eq _ _ (real_z _ _ (hpre c).1) (real_W _ _ (hpre c).2)).symm

end Cert.Proof.Algebraic

end
-- ==== Proof.lean ====
/-
  The proof of `Cert.Claim`: the frames of the kernel, of its idealization and of the reference, the idealization's
  ledger, and the equality of the two results.
-/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Algebraic

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Ref.frame m ρ, fun m ρ _ => Ref.frame m ρ, trivial,
    Algebraic.algebraic⟩

end Cert.Proof

end
